-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x16384 : Shape := ⟨3, ![1, 4096, 16384]⟩
abbrev S6144x2048 : Shape := ⟨2, ![6144, 2048]⟩
abbrev S6144x16384 : Shape := ⟨2, ![6144, 16384]⟩
abbrev S6144 : Shape := ⟨1, ![6144]⟩
abbrev S4096x16384 : Shape := ⟨2, ![4096, 16384]⟩
abbrev S6144x1 : Shape := ⟨2, ![6144, 1]⟩
abbrev S4096x6144 : Shape := ⟨2, ![4096, 6144]⟩
abbrev S2048x2048 : Shape := ⟨2, ![2048, 2048]⟩
abbrev S1024x2048 : Shape := ⟨2, ![1024, 2048]⟩
abbrev S1024x1 : Shape := ⟨2, ![1024, 1]⟩
abbrev S2048x1024 : Shape := ⟨2, ![2048, 1024]⟩

abbrev nBuf : Space → Nat
  | .hbm => 10
  | .vmem => 15
  | .smem => 0
  | _ => 0

abbrev bufTy : (tb : Table) → Fin (tcTables nBuf tb) → BufTy
  | .hbm, ⟨0, _⟩ => ⟨S1x4096x16384, .bf16⟩
  | .hbm, ⟨1, _⟩ => ⟨S6144x2048, .i8⟩
  | .hbm, ⟨2, _⟩ => ⟨S6144x2048, .i8⟩
  | .hbm, ⟨3, _⟩ => ⟨S6144x16384, .i8⟩
  | .hbm, ⟨4, _⟩ => ⟨S6144, .f32⟩
  | .hbm, ⟨5, _⟩ => ⟨S6144, .f32⟩
  | .hbm, ⟨6, _⟩ => ⟨S4096x16384, .bf16⟩
  | .hbm, ⟨7, _⟩ => ⟨S6144x1, .f32⟩
  | .hbm, ⟨8, _⟩ => ⟨S6144x1, .f32⟩
  | .hbm, ⟨9, _⟩ => ⟨S4096x6144, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .i8⟩
  | .local _ .vmem, ⟨3, _⟩ => ⟨S1024x2048, .i8⟩
  | .local _ .vmem, ⟨4, _⟩ => ⟨S1024x2048, .i8⟩
  | .local _ .vmem, ⟨5, _⟩ => ⟨S1024x2048, .i8⟩
  | .local _ .vmem, ⟨6, _⟩ => ⟨S1024x2048, .i8⟩
  | .local _ .vmem, ⟨7, _⟩ => ⟨S1024x2048, .i8⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S2048x1024, .bf16⟩
  | .local _ .vmem, ⟨13, _⟩ => ⟨S2048x1024, .bf16⟩
  | .local _ .vmem, ⟨14, _⟩ => ⟨S2048x1024, .f32⟩
  | _, _ => ⟨S1x4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![6, 2, 8], ![false, false, false]⟩

def k0_cond2 (i : grid0.Coords) : BitVec 1 :=
  let arg2 : BitVec 32 := BitVec.ofNat 32 (i 2).val
  let c7_i32 : BitVec 32 := 7#32
  let v42 : BitVec 1 := Scalar.cmpi .eq arg2 c7_i32
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S1x4096x16384 : Shape := ⟨3, ![1, 4096, 16384]⟩
abbrev S6144x2048 : Shape := ⟨2, ![6144, 2048]⟩
abbrev S6144x16384 : Shape := ⟨2, ![6144, 16384]⟩
abbrev S6144 : Shape := ⟨1, ![6144]⟩
abbrev S8 : Shape := ⟨1, ![8]⟩
abbrev S1x8x1 : Shape := ⟨3, ![1, 8, 1]⟩
abbrev S6144x1x2048 : Shape := ⟨3, ![6144, 1, 2048]⟩
abbrev S6144x8x2048 : Shape := ⟨3, ![6144, 8, 2048]⟩
abbrev S_ : Shape := ⟨0, ![]⟩
abbrev S6144x1x1 : Shape := ⟨3, ![6144, 1, 1]⟩
abbrev S1x4096x8x2048 : Shape := ⟨4, ![1, 4096, 8, 2048]⟩
abbrev S1x4096x6144 : Shape := ⟨3, ![1, 4096, 6144]⟩
abbrev S4096x6144 : Shape := ⟨2, ![4096, 6144]⟩

abbrev nBuf : Space → Nat
  | .hbm => 50
  | .vmem => 0
  | .smem => 0
  | _ => 0

abbrev bufTy : (tb : Table) → Fin (tcTables nBuf tb) → BufTy
  | .hbm, ⟨0, _⟩ => ⟨S1x4096x16384, .bf16⟩
  | .hbm, ⟨1, _⟩ => ⟨S6144x2048, .i8⟩
  | .hbm, ⟨2, _⟩ => ⟨S6144x2048, .i8⟩
  | .hbm, ⟨3, _⟩ => ⟨S6144x16384, .i8⟩
  | .hbm, ⟨4, _⟩ => ⟨S6144, .f32⟩
  | .hbm, ⟨5, _⟩ => ⟨S6144, .f32⟩
  | .hbm, ⟨6, _⟩ => ⟨S8, .i32⟩
  | .hbm, ⟨7, _⟩ => ⟨S1x8x1, .i32⟩
  | .hbm, ⟨8, _⟩ => ⟨S6144x1x2048, .i8⟩
  | .hbm, ⟨9, _⟩ => ⟨S6144x1x2048, .i32⟩
  | .hbm, ⟨10, _⟩ => ⟨S6144x8x2048, .i32⟩
  | .hbm, ⟨11, _⟩ => ⟨S6144x8x2048, .i32⟩
  | .hbm, ⟨12, _⟩ => ⟨S6144x8x2048, .i32⟩
  | .hbm, ⟨13, _⟩ => ⟨S_, .i32⟩
  | .hbm, ⟨14, _⟩ => ⟨S6144x8x2048, .i32⟩
  | .hbm, ⟨15, _⟩ => ⟨S6144x8x2048, .i32⟩
  | .hbm, ⟨16, _⟩ => ⟨S8, .i32⟩
  | .hbm, ⟨17, _⟩ => ⟨S1x8x1, .i32⟩
  | .hbm, ⟨18, _⟩ => ⟨S6144x1x2048, .i8⟩
  | .hbm, ⟨19, _⟩ => ⟨S6144x1x2048, .i32⟩
  | .hbm, ⟨20, _⟩ => ⟨S6144x8x2048, .i32⟩
  | .hbm, ⟨21, _⟩ => ⟨S6144x8x2048, .i32⟩
  | .hbm, ⟨22, _⟩ => ⟨S6144x8x2048, .i32⟩
  | .hbm, ⟨23, _⟩ => ⟨S_, .i32⟩
  | .hbm, ⟨24, _⟩ => ⟨S6144x8x2048, .i32⟩
  | .hbm, ⟨25, _⟩ => ⟨S6144x8x2048, .i32⟩
  | .hbm, ⟨26, _⟩ => ⟨S6144x8x2048, .i8⟩
  | .hbm, ⟨27, _⟩ => ⟨S6144x8x2048, .i32⟩
  | .hbm, ⟨28, _⟩ => ⟨S6144x8x2048, .bf16⟩
  | .hbm, ⟨29, _⟩ => ⟨S6144, .bf16⟩
  | .hbm, ⟨30, _⟩ => ⟨S6144x1x1, .bf16⟩
  | .hbm, ⟨31, _⟩ => ⟨S6144x8x2048, .bf16⟩
  | .hbm, ⟨32, _⟩ => ⟨S6144x8x2048, .bf16⟩
  | .hbm, ⟨33, _⟩ => ⟨S6144, .bf16⟩
  | .hbm, ⟨34, _⟩ => ⟨S6144x1x1, .bf16⟩
  | .hbm, ⟨35, _⟩ => ⟨S_, .i32⟩
  | .hbm, ⟨36, _⟩ => ⟨S6144x8x2048, .i32⟩
  | .hbm, ⟨37, _⟩ => ⟨S6144x8x2048, .i1⟩
  | .hbm, ⟨38, _⟩ => ⟨S_, .i32⟩
  | .hbm, ⟨39, _⟩ => ⟨S6144x8x2048, .i32⟩
  | .hbm, ⟨40, _⟩ => ⟨S6144x8x2048, .i1⟩
  | .hbm, ⟨41, _⟩ => ⟨S6144x1x1, .bf16⟩
  | .hbm, ⟨42, _⟩ => ⟨S6144x8x2048, .bf16⟩
  | .hbm, ⟨43, _⟩ => ⟨S6144x8x2048, .bf16⟩
  | .hbm, ⟨44, _⟩ => ⟨S6144x8x2048, .bf16⟩
  | .hbm, ⟨45, _⟩ => ⟨S6144x8x2048, .bf16⟩
  | .hbm, ⟨46, _⟩ => ⟨S1x4096x8x2048, .bf16⟩
  | .hbm, ⟨47, _⟩ => ⟨S1x4096x6144, .f32⟩
  | .hbm, ⟨48, _⟩ => ⟨S1x4096x6144, .bf16⟩
  | .hbm, ⟨49, _⟩ => ⟨S4096x6144, .bf16⟩
  | _, _ => ⟨S1x4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_1 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Proof.Body.lean ====
/- What the kernel's body leaves behind at one grid point, case by case: the accumulator scratch after the
   point, and the output block at the last point of a run of eight. The terms are the generated run's named
   terms (`Gen.sout0_κ_0`, `Gen.out0_C_6`); here they are opened to the body's payloads over the input blocks. -/
module

public import proofs.«01_k».proof.Proof.Gen.KernelIdeal.Value
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section
variable (c : Dev nD) (i : grid0.Coords) (a3 : Memref sig .tc .vmem S2048x2048 .bf16) (h3 : a3.IsWhole)
  (a4 : Memref sig .tc .vmem S1024x2048 .i8) (h4 : a4.IsWhole) (a5 : Memref sig .tc .vmem S1024x2048 .i8) (h5 : a5.IsWhole)
  (a6 : Memref sig .tc .vmem S1024x2048 .i8) (h6 : a6.IsWhole) (a7 : Memref sig .tc .vmem S1024x1 .f32) (h7 : a7.IsWhole)
  (a8 : Memref sig .tc .vmem S1024x1 .f32) (h8 : a8.IsWhole) (a9 : Memref sig .tc .vmem S2048x1024 .bf16) (h9 : a9.IsWhole)
  (a10 : Memref sig .tc .vmem S2048x1024 .f32) (h10 : a10.IsWhole)
  (x0 : Vec F S2048x2048 .bf16) (x1 x2 x3 : Vec F S1024x2048 .i8) (x4 x5 : Vec F S1024x1 .f32) (xs : Vec F S2048x1024 .f32)

/-- A first point of a run (case A) leaves in the accumulator the zero block plus the point's product. -/
theorem sout_A (hc0 : cond0_0 i) (hc1 : ¬cond0_1 i) :
    sout0_A_0 c i a3 h3 a4 h4 a5 h5 a6 h6 a7 h7 a8 h8 a9 h9 a10 h10 hc0 hc1 x0 x1 x2 x3 x4 x5
      = k0_pay1 (k0_pay3 i x3 x1 x2 x4 x5) (k0_pay4 (F := F)) x0 := by
  unfold sout0_A_0
  rw [View.read_writes_eq_canon _ _ _ (scover0_A_0 c i a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread, h6.read_unread, h7.read_unread, h8.read_unread,
    View.ld_unit_zero (S := S2048x2048) hz, View.ld_unit_zero (S := S1024x2048) hz, View.ld_unit_zero (S := S1024x1) hz]

/-- A middle point (case B) adds the point's product to what the accumulator held. -/
theorem sout_B (hc0 : ¬cond0_0 i) (hc1 : ¬cond0_1 i) :
    sout0_B_0 c i a3 h3 a4 h4 a5 h5 a6 h6 a7 h7 a8 h8 a9 h9 a10 h10 hc0 hc1 x0 x1 x2 x3 x4 x5 xs
      = k0_pay1 (k0_pay3 i x3 x1 x2 x4 x5) xs x0 := by
  unfold sout0_B_0
  rw [View.read_writes_eq_canon _ _ _ (scover0_B_0 c i a3 h3 a4 h4 a5 h5 a6 h6 a7 h7 a8 h8 a9 h9 a10 h10 hc0 hc1 x0 x1 x2 x3 x4 x5 xs)]
  unfold kernelRun0_B
  dsimp only
  sl_unfold_words
  rw [View.canon_unit_zero hz]
  simp only [View.readAt_eq_ld, h3.read_unread, h4.read_unread, h5.read_unread, h6.read_unread, h7.read_unread, h8.read_unread, h10.read_unread,
    View.ld_unit_zero (S := S2048x2048) hz, View.ld_unit_zero (S := S1024x2048) hz, View.ld_unit_zero (S := S1024x1) hz, View.ld_unit_zero (S := S2048x1024) hz]

/-- A last point (case C) adds its product too. -/
theorem sout_C (hc0 : ¬cond0_0 i) (hc1 : cond0_1 i) :
    sout0_C_0 c i a3 h3 a4 h4 a5 h5 a6 h6 a7 h7 a8 h8 a9 h9 a10 h10 hc0 hc1 x0 x1 x2 x3 x4 x5 xs
      = k0_pay1 (k0_pay3 i x3 x1 x2 x4 x5) xs x0 := by
  unfold sout0_C_0
  rw [View.read_writes_eq_canon _ _ _ (scover0_C_0 c i a3 h3 a4 h4 a5 h5 a6 h6 a7 h7 a8 h8 a9 h9 a10 h10 hc0 hc1 x0 x1 x2 x3 x4 x5 xs)]
  unfold kernelRun0_C
  dsimp only
  sl_unfold_words
  rw [View.canon_unit_zero hz]
  simp only [View.readAt_eq_ld, h3.read_unread, h4.read_unread, h5.read_unread, h6.read_unread, h7.read_unread, h8.read_unread, h10.read_unread,
    View.ld_unit_zero (S := S2048x2048) hz, View.ld_unit_zero (S := S1024x2048) hz, View.ld_unit_zero (S := S1024x1) hz, View.ld_unit_zero (S := S2048x1024) hz]

/-- And a last point stores the accumulator it leaves, converted, as the output block. -/
theorem out_C (hc0 : ¬cond0_0 i) (hc1 : cond0_1 i) :
    out0_C_6 c i a3 h3 a4 h4 a5 h5 a6 h6 a7 h7 a8 h8 a9 h9 a10 h10 hc0 hc1 x0 x1 x2 x3 x4 x5 xs
      = k0_pay2 (k0_pay1 (k0_pay3 i x3 x1 x2 x4 x5) xs x0) := by
  unfold out0_C_6
  rw [View.read_writes_eq_canon _ _ _ (cover0_C_6 c i a3 h3 a4 h4 a5 h5 a6 h6 a7 h7 a8 h8 a9 h9 a10 h10 hc0 hc1 x0 x1 x2 x3 x4 x5 xs)]
  unfold kernelRun0_C
  dsimp only
  sl_unfold_words
  rw [View.canon_unit_zero hz, View.readCov_unit_zero (S := S2048x1024) _ hz]
  simp only [View.readAt_eq_ld, h3.read_unread, h4.read_unread, h5.read_unread, h6.read_unread, h7.read_unread, h8.read_unread, h10.read_unread,
    View.ld_unit_zero (S := S2048x2048) hz, View.ld_unit_zero (S := S1024x2048) hz, View.ld_unit_zero (S := S1024x1) hz, View.ld_unit_zero (S := S2048x1024) hz]

end

end Cert.KernelIdeal.Value

end
-- ==== Proof.Blocks.lean ====
/- What each input window's block holds at a grid point, in the program's arguments. Point `t` of the 96 is column
   tile `t / 16`, row tile `t / 8 % 2`, plane `t % 8`. -/
module

public import proofs.«01_k».proof.Proof.Gen.KernelIdeal.Value
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

/-! ## The points and the index maps -/

/-- A point of the grid is below 96. -/
theorem pt_lt : t.val < 96 := lt_of_lt_of_eq t.isLt N_0

/-- The third grid coordinate of point `t`, the plane, is `t % 8`. -/
theorem plane_eq : ∀ t : Fin cfg0.N, ((grid0.coords t) 2).val = t.val % 8 :=
  (by decide +kernel : ∀ t : Fin grid0.N, _)

/-- The input window moves with the row tile and the plane. -/
theorem index0 : ∀ t : Fin cfg0.N, win0_0.index t (0 : Fin 2) = t.val / 8 % 2 ∧ win0_0.index t (1 : Fin 2) = t.val % 8 :=
  (by decide +kernel : ∀ t : Fin grid0.N, _)
/-- The mask window moves with the column tile. -/
theorem index1 : ∀ t : Fin cfg0.N, win0_1.index t (0 : Fin 2) = t.val / 16 ∧ win0_1.index t (1 : Fin 2) = 0 :=
  (by decide +kernel : ∀ t : Fin grid0.N, _)
/-- The sign window moves with the column tile. -/
theorem index2 : ∀ t : Fin cfg0.N, win0_2.index t (0 : Fin 2) = t.val / 16 ∧ win0_2.index t (1 : Fin 2) = 0 :=
  (by decide +kernel : ∀ t : Fin grid0.N, _)
/-- The quantized values' window moves with the column tile and the plane. -/
theorem index3 : ∀ t : Fin cfg0.N, win0_3.index t (0 : Fin 2) = t.val / 16 ∧ win0_3.index t (1 : Fin 2) = t.val % 8 :=
  (by decide +kernel : ∀ t : Fin grid0.N, _)
/-- The scale window moves with the column tile. -/
theorem index4 : ∀ t : Fin cfg0.N, win0_4.index t (0 : Fin 2) = t.val / 16 ∧ win0_4.index t (1 : Fin 2) = 0 :=
  (by decide +kernel : ∀ t : Fin grid0.N, _)
/-- The magnitude window moves with the column tile. -/
theorem index5 : ∀ t : Fin cfg0.N, win0_5.index t (0 : Fin 2) = t.val / 16 ∧ win0_5.index t (1 : Fin 2) = 0 :=
  (by decide +kernel : ∀ t : Fin grid0.N, _)

/-! ## The arrays the host reshapes before the region -/

/-- The region finds in the input window's array the input argument, its leading unit axis dropped. -/
theorem V_x : V m c main_v0 = shapeCast S4096x16384 (m ((c : Thread nD τ).loc main_arg0)) shapeCasts_S1x4096x16384_S4096x16384 := by
  unfold V; after_results; rfl
/-- The region finds in the scale window's array the scales as a column. -/
theorem V_scale : V m c main_v1 = shapeCast S6144x1 (m ((c : Thread nD τ).loc main_arg4)) shapeCasts_S6144_S6144x1 := by
  unfold V; after_results; rfl
/-- The region finds in the magnitude window's array the magnitudes as a column. -/
theorem V_alpha : V m c main_v2 = shapeCast S6144x1 (m ((c : Thread nD τ).loc main_arg5)) shapeCasts_S6144_S6144x1 := by
  unfold V; after_results; rfl

/-- The input with its leading unit axis dropped, at an index. -/
theorem dropUnit_apply (x : Vec F S1x4096x16384 .bf16) (a : Fin 4096) (b : Fin 16384) :
    shapeCast S4096x16384 x shapeCasts_S1x4096x16384_S4096x16384 (ix2 a b) = x (ix3 0 a b) := by
  pointwise

/-- A row of parameters as a column, at an index. -/
theorem column_apply (x : Vec F S6144 .f32) (a : Fin 6144) :
    shapeCast S6144x1 x shapeCasts_S6144_S6144x1 (ix2 a 0) = x (ix1 a) := by
  pointwise

/-! ## The blocks -/

/-- The row of the arrays that row `n` of the column tile of point `t` is. -/
abbrev colOf (n : Fin 1024) : Fin 6144 := ⟨t.val / 16 * 1024 + n.val, by have := pt_lt t; omega⟩
/-- The row of the input that row `r` of the row tile of point `t` is. -/
abbrev rowOf (r : Fin 2048) : Fin 4096 := ⟨t.val / 8 % 2 * 2048 + r.val, by omega⟩
/-- The place in a whole row that place `j` of the plane of point `t` is. -/
abbrev placeOf (j : Fin 2048) : Fin 16384 := ⟨t.val % 8 * 2048 + j.val, by omega⟩

/-- The input block at `(r, j)`. -/
theorem iblk0_apply (r j : Fin 2048) :
    (iblk m c 0 t : Vec F S2048x2048 .bf16) (ix2 r j)
      = (m ((c : Thread nD τ).loc main_arg0) : Vec F S1x4096x16384 .bf16) (ix3 0 (rowOf t r) (placeOf t j)) := by
  have e : (iblk m c 0 t : Vec F S2048x2048 .bf16) (ix2 r j)
      = (V m c main_v0 : Vec F S4096x16384 .bf16) (ix2 (rowOf t r) (placeOf t j)) := by
    unfold iblk
    rw [View.read_apply]
    show V m c main_v0 _ = V m c main_v0 _
    congr 1; funext a; apply Fin.ext
    match a with
    | ⟨0, _⟩ => show win0_0.index t 0 * 2048 + 1 * r.val = t.val / 8 % 2 * 2048 + r.val; rw [(index0 t).1, Nat.one_mul]
    | ⟨1, _⟩ => show win0_0.index t 1 * 2048 + 1 * j.val = t.val % 8 * 2048 + j.val; rw [(index0 t).2, Nat.one_mul]
  rw [e, V_x, dropUnit_apply]

/-- The mask block at `(n, j)`. -/
theorem iblk1_apply (n : Fin 1024) (j : Fin 2048) :
    (iblk m c 1 t : Vec F S1024x2048 .i8) (ix2 n j)
      = (m ((c : Thread nD τ).loc main_arg1) : Vec F S6144x2048 .i8) (ix2 (colOf t n) j) := by
  unfold iblk
  rw [View.read_apply]
  show V m c main_arg1 _ = _
  rw [V_main_arg1]
  congr 1; funext a; apply Fin.ext
  match a with
  | ⟨0, _⟩ => show win0_1.index t 0 * 1024 + 1 * n.val = t.val / 16 * 1024 + n.val; rw [(index1 t).1, Nat.one_mul]
  | ⟨1, _⟩ => show win0_1.index t 1 * 2048 + 1 * j.val = j.val; rw [(index1 t).2]; omega

/-- The sign block at `(n, j)`. -/
theorem iblk2_apply (n : Fin 1024) (j : Fin 2048) :
    (iblk m c 2 t : Vec F S1024x2048 .i8) (ix2 n j)
      = (m ((c : Thread nD τ).loc main_arg2) : Vec F S6144x2048 .i8) (ix2 (colOf t n) j) := by
  unfold iblk
  rw [View.read_apply]
  show V m c main_arg2 _ = _
  rw [V_main_arg2]
  congr 1; funext a; apply Fin.ext
  match a with
  | ⟨0, _⟩ => show win0_2.index t 0 * 1024 + 1 * n.val = t.val / 16 * 1024 + n.val; rw [(index2 t).1, Nat.one_mul]
  | ⟨1, _⟩ => show win0_2.index t 1 * 2048 + 1 * j.val = j.val; rw [(index2 t).2]; omega

/-- The quantized values' block at `(n, j)`. -/
theorem iblk3_apply (n : Fin 1024) (j : Fin 2048) :
    (iblk m c 3 t : Vec F S1024x2048 .i8) (ix2 n j)
      = (m ((c : Thread nD τ).loc main_arg3) : Vec F S6144x16384 .i8) (ix2 (colOf t n) (placeOf t j)) := by
  unfold iblk
  rw [View.read_apply]
  show V m c main_arg3 _ = _
  rw [V_main_arg3]
  congr 1; funext a; apply Fin.ext
  match a with
  | ⟨0, _⟩ => show win0_3.index t 0 * 1024 + 1 * n.val = t.val / 16 * 1024 + n.val; rw [(index3 t).1, Nat.one_mul]
  | ⟨1, _⟩ => show win0_3.index t 1 * 2048 + 1 * j.val = t.val % 8 * 2048 + j.val; rw [(index3 t).2, Nat.one_mul]

/-- The scale block at row `n`. -/
theorem iblk4_apply (n : Fin 1024) :
    (iblk m c 4 t : Vec F S1024x1 .f32) (ix2 n 0)
      = (m ((c : Thread nD τ).loc main_arg4) : Vec F S6144 .f32) (ix1 (colOf t n)) := by
  have e : (iblk m c 4 t : Vec F S1024x1 .f32) (ix2 n 0) = (V m c main_v1 : Vec F S6144x1 .f32) (ix2 (colOf t n) 0) := by
    unfold iblk
    rw [View.read_apply]
    show V m c main_v1 _ = V m c main_v1 _
    congr 1; funext a; apply Fin.ext
    match a with
    | ⟨0, _⟩ => show win0_4.index t 0 * 1024 + 1 * n.val = t.val / 16 * 1024 + n.val; rw [(index4 t).1, Nat.one_mul]
    | ⟨1, _⟩ => show win0_4.index t 1 * 1 + 1 * 0 = 0; rw [(index4 t).2]
  rw [e, V_scale, column_apply]

/-- The magnitude block at row `n`. -/
theorem iblk5_apply (n : Fin 1024) :
    (iblk m c 5 t : Vec F S1024x1 .f32) (ix2 n 0)
      = (m ((c : Thread nD τ).loc main_arg5) : Vec F S6144 .f32) (ix1 (colOf t n)) := by
  have e : (iblk m c 5 t : Vec F S1024x1 .f32) (ix2 n 0) = (V m c main_v2 : Vec F S6144x1 .f32) (ix2 (colOf t n) 0) := by
    unfold iblk
    rw [View.read_apply]
    show V m c main_v2 _ = V m c main_v2 _
    congr 1; funext a; apply Fin.ext
    match a with
    | ⟨0, _⟩ => show win0_5.index t 0 * 1024 + 1 * n.val = t.val / 16 * 1024 + n.val; rw [(index5 t).1, Nat.one_mul]
    | ⟨1, _⟩ => show win0_5.index t 1 * 1 + 1 * 0 = 0; rw [(index5 t).2]
  rw [e, V_alpha, column_apply]

end Cert.KernelIdeal.Value

end
-- ==== Proof.Weight.lean ====
/- One dequantized weight, as a number: what it is, and that the kernel's test of a bit (a 16-bit word masked
   by `1 << p`) and the reference's (a 32-bit word shifted right by `p`, masked by 1) are both "bit `p` of the
   byte is set". No program is mentioned here: both sides' computations reduce to `weight`. -/
module

public import Idealize.ShloMosaic.Lib.Pointwise

@[expose] public section

noncomputable section

namespace Cert.Weight

open Idealize.ShloMosaic

/-- The weight of plane `p` at a place whose mask byte is `mb`, sign byte `sb`, quantized value `q`, row scale `sc`
    and row magnitude `al`: `q · sc` where bit `p` of the mask byte is set, elsewhere `al` or `-al` as bit `p` of
    the sign byte is set or not. -/
def weight (p : Fin 8) (mb sb q : BitVec 8) (sc al : EReal) : EReal :=
  if mb.getLsbD p.val then FloatOps.sitofp (F := Ideal) .bf16 q * sc else if sb.getLsbD p.val then al else -al

/-- Selecting by a one-bit condition that is a boolean's bit is the boolean's `if`. -/
theorem select_ofBool {α : Type} (b : Bool) (u v : α) : Scalar.select (BitVec.ofBool b) u v = if b then u else v := by
  cases b <;> rfl

/-- The kernel's bit test: the byte widened to 16 bits, masked by `1 << p` and compared with zero, is bit `p`. -/
theorem kernel_bit : ∀ (p : Fin 8) (b : BitVec 8),
    IntOp.cmpi .ne (IntOp.andi (b.setWidth 16) (BitVec.setWidth 16 (Scalar.shli 1#32 (BitVec.ofNat 32 p.val)))) 0#16
      = BitVec.ofBool (b.getLsbD p.val) := by decide +kernel

/-- The reference's bit test: the byte widened to 32 bits, shifted right by `p`, masked by 1 and compared with 1,
    is bit `p`. -/
theorem reference_bit : ∀ (p : Fin 8) (b : BitVec 8),
    IntOp.cmpi .eq (IntOp.andi (IntOp.shrui .host (b.setWidth 32) (BitVec.ofNat 32 p.val)) 1#32) 1#32
      = BitVec.ofBool (b.getLsbD p.val) := by decide +kernel

/-- An 8-bit signed integer and the same integer widened to 32 bits convert to the same number. -/
theorem sitofp_signExtend (q : BitVec 8) :
    FloatOps.sitofp (F := Ideal) .bf16 (q.signExtend 32) = FloatOps.sitofp (F := Ideal) .bf16 q := by
  show (((q.signExtend 32).toInt : ℝ) : EReal) = ((q.toInt : ℝ) : EReal)
  rw [BitVec.toInt_signExtend_of_le (by decide)]

end Cert.Weight

end
-- ==== Proof.Kernel.lean ====
/- What the kernel's result array holds, at an index: the accumulator's fold over the eight planes of a run, opened to
   the sum over planes and places of input times weight. -/
module

public import proofs.«01_k».proof.Proof.Body
public import proofs.«01_k».proof.Proof.Blocks
public import proofs.«01_k».proof.Proof.Weight

@[expose] public section

set_option maxRecDepth 16384

noncomputable section

namespace Cert.KernelIdeal.Value

open Cert.KernelIdeal Cert.KernelIdeal.Gen Cert.Weight Idealize.ShloMosaic Idealize.ShloMosaic.TcCoe Idealize.SL.Sem

/-! ## The body's arithmetic, at an index -/

/-- The weight block the body dequantizes, at `(n, j)`: `weight` of what it reads there, the plane being the third
    grid coordinate. -/
theorem pay3_apply (i : grid0.Coords) (p : Fin 8) (hp : (i 2).val = p.val) (q mask sign : Vec Ideal S1024x2048 .i8)
    (scale alpha : Vec Ideal S1024x1 .f32) (n : Fin 1024) (j : Fin 2048) :
    k0_pay3 i q mask sign scale alpha (ix2 n j)
      = weight p (mask (ix2 n j)) (sign (ix2 n j)) (q (ix2 n j)) (scale (ix2 n 0)) (alpha (ix2 n 0)) := by
  pointwise [k0_pay3]
  rw [hp, kernel_bit, kernel_bit, select_ofBool, select_ofBool, zero_sub]
  rfl

/-- One accumulation, at `(r, n)`: what the accumulator held plus the row of the input block times the row of weights. -/
theorem pay1_apply (w : FVec Ideal S1024x2048 .bf16) (acc : Vec Ideal S2048x1024 .f32) (x : Vec Ideal S2048x2048 .bf16)
    (r : Fin 2048) (n : Fin 1024) :
    k0_pay1 w acc x (ix2 r n) = acc (ix2 r n) + ∑ j, x (ix2 r j) * w (ix2 n j) := by
  pointwise [k0_pay1]

/-- The block the accumulator is reset to is zero. -/
theorem pay4_apply (r : Fin 2048) (n : Fin 1024) : (k0_pay4 (F := Ideal)) (ix2 r n) = 0 := by
  pointwise [k0_pay4]

/-! ## One point's contribution -/

variable (m : (ℓ : Loc nD τ sig) → Buf (Elt Ideal) ℓ) (c : Dev nD)

/-- The product of input and weight at row `r`, column `n`, plane `p`, place `j`, over the six arguments' arrays. -/
def prod (x : Vec Ideal S1x4096x16384 .bf16) (mask sign : Vec Ideal S6144x2048 .i8) (q : Vec Ideal S6144x16384 .i8)
    (scale alpha : Vec Ideal S6144 .f32) (r : Fin 4096) (n : Fin 6144) (p : Fin 8) (j : Fin 2048) : EReal :=
  x (ix3 0 r ⟨p.val * 2048 + j.val, by omega⟩)
    * weight p (mask (ix2 n j)) (sign (ix2 n j)) (q (ix2 n ⟨p.val * 2048 + j.val, by omega⟩)) (scale (ix1 n)) (alpha (ix1 n))

/-- That product over the arguments the program is launched with. -/
abbrev prodAt (r : Fin 4096) (n : Fin 6144) (p : Fin 8) (j : Fin 2048) : EReal :=
  prod (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r n p j

/-- The sum of the products of row `r` and column `n` over all planes and places. -/
def sumAt (r : Fin 4096) (n : Fin 6144) : EReal := ∑ p : Fin 8, ∑ j : Fin 2048, prodAt m c r n p j

/-- What point `t` adds to the accumulator at `(r, n)` of its block. -/
def contrib (t : Fin cfg0.N) (r : Fin 2048) (n : Fin 1024) : EReal :=
  ∑ j : Fin 2048, prodAt m c (rowOf t r) (colOf t n) ⟨t.val % 8, Nat.mod_lt _ (by decide)⟩ j

/-- The body's accumulation at point `t`, over the point's input blocks, adds `contrib`. -/
theorem point_apply (t : Fin cfg0.N) (acc : Vec Ideal S2048x1024 .f32) (r : Fin 2048) (n : Fin 1024) :
    k0_pay1 (k0_pay3 (grid0.coords t) (iblk m c 3 t) (iblk m c 1 t) (iblk m c 2 t) (iblk m c 4 t) (iblk m c 5 t)) acc (iblk m c 0 t) (ix2 r n)
      = acc (ix2 r n) + contrib m c t r n := by
  rw [pay1_apply]
  congr 1
  refine Finset.sum_congr rfl fun j _ => ?_
  rw [pay3_apply (grid0.coords t) ⟨t.val % 8, Nat.mod_lt _ (by decide)⟩ (plane_eq t), iblk0_apply, iblk1_apply, iblk2_apply,
    iblk3_apply, iblk4_apply, iblk5_apply]
  rfl

/-! ## The fold over a run -/

/-- What point number `s` adds to the accumulator at index `i` (zero past the grid, where there is no point). -/
def added (s : ℕ) (i : S2048x1024.Idx) : EReal := if h : s < cfg0.N then contrib m c (⟨s, h⟩ : Fin cfg0.N) (i 0) (i 1) else 0

/-- The first point of a run leaves what it adds, over zero. -/
theorem step_first (n : ℕ) (h : n < cfg0.N) (hn : n % 8 = 0) (acc : Vec Ideal S2048x1024 .f32) (i : S2048x1024.Idx) :
    scAt0_0 m c n h acc i = 0 + added m c n i := by
  unfold scAt0_0
  rw [dif_pos hn, dif_neg (by omega), sout_A]
  idx_vars i
  rw [point_apply m c ⟨n, h⟩, pay4_apply]
  unfold added
  rw [dif_pos h]
  rfl

/-- A later point of a run adds to what the accumulator held. -/
theorem step_next (n : ℕ) (h : n < cfg0.N) (hn : ¬n % 8 = 0) (acc : Vec Ideal S2048x1024 .f32) (i : S2048x1024.Idx) :
    scAt0_0 m c n h acc i = acc i + added m c n i := by
  have key : scAt0_0 m c n h acc = k0_pay1 (k0_pay3 (grid0.coords ⟨n, h⟩) (iblk m c 3 ⟨n, h⟩) (iblk m c 1 ⟨n, h⟩) (iblk m c 2 ⟨n, h⟩) (iblk m c 4 ⟨n, h⟩) (iblk m c 5 ⟨n, h⟩)) acc (iblk m c 0 ⟨n, h⟩) := by
    unfold scAt0_0
    rw [dif_neg hn]
    by_cases h1 : n % 8 = 7
    · rw [dif_pos h1, sout_C]
    · rw [dif_neg h1, sout_B]
  rw [key]
  idx_vars i
  rw [point_apply m c ⟨n, h⟩]
  unfold added
  rw [dif_pos h]
  rfl

/-- The accumulator after point `t`: the sum of what the points of the run up to `t` added. -/
theorem scratch_apply (t : Fin cfg0.N) (i : S2048x1024.Idx) :
    (outsAt0 m c t.val t.isLt).2 i = 0 + ∑ s ∈ Finset.range (t.val % 8 + 1), added m c (8 * (t.val / 8) + s) i := by
  have ht := pt_lt t
  rw [soutsAt0_0_eq]
  exact Pipeline.accAt_add_apply _ _ (fun _ => (0 : EReal)) (added m c) (8 * (t.val / 8)) 7
    (fun h i => step_first m c _ h (by omega) _ i) (fun n h acc i h1 h2 => step_next m c n h (by omega) acc i) (t.val % 8) (by omega) (lt_of_lt_of_eq (by omega) N_0.symm) i

/-- The last point of a run stores the accumulator it leaves (the conversion is exact here). -/
theorem stored_eq (t : Fin cfg0.N) (h : t.val % 8 = 7) :
    (outsAt0 m c t.val t.isLt).1 = (outsAt0 m c t.val t.isLt).2 := by
  rw [outsAt0_C m c t (by omega) h]
  dsimp only
  rw [out_C, sout_C]
  rfl

/-- What a run's last point stores at `(r, n)` of its block: the sum over all eight planes. -/
theorem stored_apply (t : Fin cfg0.N) (h : t.val % 8 = 7) (r : Fin 2048) (n : Fin 1024) :
    (outsAt0 m c t.val t.isLt).1 (ix2 r n) = sumAt m c (rowOf t r) (colOf t n) := by
  have ht := pt_lt t
  rw [stored_eq m c t h, scratch_apply, zero_add, h, Finset.sum_range]
  unfold sumAt
  refine Finset.sum_congr rfl fun p _ => ?_
  have hN : 8 * (t.val / 8) + p.val < cfg0.N := lt_of_lt_of_eq (by omega) N_0.symm
  unfold added contrib
  rw [dif_pos hN]
  refine Finset.sum_congr rfl fun j _ => ?_
  have hp : (⟨(8 * (t.val / 8) + p.val) % 8, Nat.mod_lt _ (by decide)⟩ : Fin 8) = p := Fin.ext (by show (8 * (t.val / 8) + p.val) % 8 = p.val; omega)
  have hr : rowOf ⟨8 * (t.val / 8) + p.val, hN⟩ r = rowOf t r := Fin.ext (by
    show (8 * (t.val / 8) + p.val) / 8 % 2 * 2048 + r.val = t.val / 8 % 2 * 2048 + r.val; omega)
  have hc : colOf ⟨8 * (t.val / 8) + p.val, hN⟩ n = colOf t n := Fin.ext (by
    show (8 * (t.val / 8) + p.val) / 16 * 1024 + n.val = t.val / 16 * 1024 + n.val; omega)
  show prodAt m c (rowOf ⟨8 * (t.val / 8) + p.val, hN⟩ r) (colOf ⟨8 * (t.val / 8) + p.val, hN⟩ n) ⟨(8 * (t.val / 8) + p.val) % 8, _⟩ j = _
  rw [hp, hr, hc]

/-- THE RESULT ARRAY at row `r`, column `n`: the sum over planes and places of input times weight. -/
theorem array_apply (r : Fin 4096) (n : Fin 6144) :
    G6 m c (ix2 r n) = sumAt m c r n := by
  have hpt : 8 * (r.val / 2048 + 2 * (n.val / 1024)) + 7 < cfg0.N := lt_of_lt_of_eq (by omega) N_0.symm
  let t : Fin cfg0.N := ⟨8 * (r.val / 2048 + 2 * (n.val / 1024)) + 7, hpt⟩
  have ept : pt6Of (ix2 r n) = t.val := by
    show 8 * (1 * (r.val / 2048 - 0) + 2 * (n.val / 1024 - 0)) + 7 = 8 * (r.val / 2048 + 2 * (n.val / 1024)) + 7; omega
  have eloc : loc6Of (ix2 r n) = ix2 (⟨r.val % 2048, Nat.mod_lt _ (by decide)⟩ : Fin 2048) (⟨n.val % 1024, Nat.mod_lt _ (by decide)⟩ : Fin 1024) := by
    funext a
    match a with
    | ⟨0, _⟩ => rfl
    | ⟨1, _⟩ => rfl
  have hr : rowOf t ⟨r.val % 2048, Nat.mod_lt _ (by decide)⟩ = r := Fin.ext (by
    show (8 * (r.val / 2048 + 2 * (n.val / 1024)) + 7) / 8 % 2 * 2048 + r.val % 2048 = r.val; omega)
  have hc : colOf t ⟨n.val % 1024, Nat.mod_lt _ (by decide)⟩ = n := Fin.ext (by
    show (8 * (r.val / 2048 + 2 * (n.val / 1024)) + 7) / 16 * 1024 + n.val % 1024 = n.val; omega)
  unfold G6
  rw [dif_pos (ept ▸ t.isLt), eloc, fold0_congr m c _ _ t.val (by rw [Nat.zero_add]; exact t.isLt) ept, ← outsAt0_sweep m c t.val t.isLt,
    stored_apply m c t (by show (8 * (r.val / 2048 + 2 * (n.val / 1024)) + 7) % 8 = 7; omega), hr, hc]

end Cert.KernelIdeal.Value

end
-- ==== Proof.Reference.lean ====
/- What the reference program computes, at an index: the sum over the planes and the places within a plane of
   input times weight. -/
module

public import proofs.«01_k».proof.Proof.Gen.ReferenceIdeal.Run
public import proofs.«01_k».proof.Proof.Weight

@[expose] public section

set_option maxRecDepth 16384

noncomputable section

namespace Cert.ReferenceIdeal.Value

open Cert.ReferenceIdeal Cert.ReferenceIdeal.Gen Cert.Weight Idealize.ShloMosaic Idealize.ShloMosaic.TcCoe Idealize.SL.Sem Idealize.ShloMosaic.StableHlo

/-- Bit `p` of each packed byte, as a 0/1 condition per row, plane and place: the reference's unpacking. -/
def bits (b : Vec Ideal S6144x2048 .i8) : IVec S6144x8x2048 1 :=
  cmpi .eq (andi (Host.shrui (broadcastInDim S6144x8x2048 ![0, 1, 2] bcast_S6144x1x2048_S6144x8x2048_0_1_2 (extui 32 (broadcastInDim S6144x1x2048 ![0, 2] bcast_S6144x2048_S6144x1x2048_0_2 b) natLt_8_32)) (broadcastInDim S6144x8x2048 ![0, 1, 2] bcast_S1x8x1_S6144x8x2048_0_1_2 (broadcastInDim S1x8x1 ![1] bcast_S8_S1x8x1_1 (iotaInDim S8 32 0)))) (broadcastInDim S6144x8x2048 ![] bcast_S_S6144x8x2048 (constantI S_ 32 1#32))) (broadcastInDim S6144x8x2048 ![] bcast_S_S6144x8x2048 (constantI S_ 32 1#32))

/-- The weights the reference composes from the packed masks and signs, the quantized values and the row parameters. -/
def weights (mask sign : Vec Ideal S6144x2048 .i8) (q : Vec Ideal S6144x16384 .i8) (scale alpha : Vec Ideal S6144 .f32) :
    FVec Ideal S6144x8x2048 .bf16 :=
  select (bits mask)
    (mulf (sitofp .bf16 (extsi 32 (shapeCast S6144x8x2048 q shapeCasts_S6144x16384_S6144x8x2048) natLt_8_32)) (broadcastInDim S6144x8x2048 ![0, 1, 2] bcast_S6144x1x1_S6144x8x2048_0_1_2 (broadcastInDim S6144x1x1 ![0] bcast_S6144_S6144x1x1_0 (truncf .bf16 scale bitsLt_bf16_f32))))
    (select (bits sign)
      (broadcastInDim S6144x8x2048 ![0, 1, 2] bcast_S6144x1x1_S6144x8x2048_0_1_2 (broadcastInDim S6144x1x1 ![0] bcast_S6144_S6144x1x1_0 (truncf .bf16 alpha bitsLt_bf16_f32)))
      (broadcastInDim S6144x8x2048 ![0, 1, 2] bcast_S6144x1x1_S6144x8x2048_0_1_2 (Host.negf (broadcastInDim S6144x1x1 ![0] bcast_S6144_S6144x1x1_0 (truncf .bf16 alpha bitsLt_bf16_f32)))))

/-- The reference's result, over its six arguments. -/
def result (x : Vec Ideal S1x4096x16384 .bf16) (mask sign : Vec Ideal S6144x2048 .i8) (q : Vec Ideal S6144x16384 .i8)
    (scale alpha : Vec Ideal S6144 .f32) : Vec Ideal S4096x6144 .bf16 :=
  shapeCast S4096x6144 (truncf .bf16 (Host.dotGeneral (φ₁ := .bf16) (φ₂ := .bf16) dot_S1x4096x8x2048_S6144x8x2048_S1x4096x6144_32_21_01_0_n_n none
    (shapeCast S1x4096x8x2048 x shapeCasts_S1x4096x16384_S1x4096x8x2048) (weights mask sign q scale alpha) : FVec Ideal S1x4096x6144 .f32) bitsLt_bf16_f32)
    shapeCasts_S1x4096x6144_S4096x6144

/-- A weight of the reference, at row `n`, plane `p`, place `i`: `weight` of the bytes and parameters it reads. -/
theorem weights_apply (mask sign : Vec Ideal S6144x2048 .i8) (q : Vec Ideal S6144x16384 .i8) (scale alpha : Vec Ideal S6144 .f32)
    (n : Fin 6144) (p : Fin 8) (i : Fin 2048) :
    weights mask sign q scale alpha (ix3 n p i)
      = weight p (mask (ix2 n i)) (sign (ix2 n i)) (q (ix2 n ⟨p.val * 2048 + i.val, by omega⟩)) (scale (ix1 n)) (alpha (ix1 n)) := by
  pointwise [weights, bits]
  rw [reference_bit, reference_bit, select_ofBool, select_ofBool, sitofp_signExtend]
  rfl

/-- The reference's result at row `r`, column `n`: the sum over planes and places of input times weight. -/
theorem result_apply (x : Vec Ideal S1x4096x16384 .bf16) (mask sign : Vec Ideal S6144x2048 .i8) (q : Vec Ideal S6144x16384 .i8)
    (scale alpha : Vec Ideal S6144 .f32) (r : Fin 4096) (n : Fin 6144) :
    result x mask sign q scale alpha (ix2 r n)
      = ∑ p : Fin 8, ∑ i : Fin 2048, x (ix3 0 r ⟨p.val * 2048 + i.val, by omega⟩)
          * weight p (mask (ix2 n i)) (sign (ix2 n i)) (q (ix2 n ⟨p.val * 2048 + i.val, by omega⟩)) (scale (ix1 n)) (alpha (ix1 n)) := by
  simp only [← weights_apply]
  unfold result
  generalize weights mask sign q scale alpha = w
  pointwise
  exact Finset.sum_comm

end Cert.ReferenceIdeal.Value

end
-- ==== Proof.Equation.lean ====
/- The equation of the two sides: the kernel's result array is the reference's result of the same arguments. -/
module

public import proofs.«01_k».proof.Proof.Kernel
public import proofs.«01_k».proof.Proof.Reference

@[expose] public section

noncomputable section

namespace Cert.Equation

open Cert.KernelIdeal Cert.KernelIdeal.Value Idealize.ShloMosaic Idealize.ShloMosaic.TcCoe Idealize.SL.Sem

variable (m : (ℓ : Loc nD τ sig) → Buf (Elt Ideal) ℓ) (c : Dev nD)

/-- The kernel's result array is the reference's result of the arguments the kernel was launched with: at every row and
    column both are the sum over planes and places of input times weight. -/
theorem array_eq_result :
    G6 m c = Cert.ReferenceIdeal.Value.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  funext (i : S4096x6144.Idx)
  idx_vars i
  exact (array_apply m c _ _).trans (Cert.ReferenceIdeal.Value.result_apply _ _ _ _ _ _ _ _).symm

end Cert.Equation

end
-- ==== Proof.lean ====
module

public import proofs.«01_k».proof.Proof.Equation
public import proofs.«01_k».proof.Defs
public import proofs.«01_k».proof.Proof.Gen.Kernel.Frame
public import Idealize.ShloMosaic.Adequacy
public import Idealize.ShloMosaic.Init
public import Idealize.ShloMosaic.Lib.Quiescent

@[expose] public section

noncomputable section

namespace Cert.Proof

open Idealize.ShloMosaic Idealize.SL.Sem

/-- The reference's run ends with its arguments unchanged and no semaphore held: it declares none. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On memories agreeing on the arguments, the kernel and the reference end with the same result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.Equation.array_eq_result m c).symm

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
